-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_matched_below_inf [hPre_matched_below_inf : Cert.Pre_matched_below_inf.Facts] (m : (ℓ : Loc Cert.KernelIdeal.nD Cert.KernelIdeal.τ Cert.KernelIdeal.sig) → Buf (Elt Ideal) ℓ) : Prop :=
  ∀ c : Dev Cert.KernelIdeal.nD,
    (Cert.Pre_matched_below_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_matched_below_inf [hPre_matched_below_inf : Cert.Pre_matched_below_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_matched_below_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_matched_below_inf [hKernelIdeal : Cert.KernelIdeal.Facts] [hPre_matched_below_inf : Cert.Pre_matched_below_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_matched_below_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_matched_below_inf [hReferenceIdeal : Cert.ReferenceIdeal.Facts] [hPre_matched_below_inf : Cert.Pre_matched_below_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_matched_below_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "w_ce" .f32 0x39A3D70A#32 ((3200⁻¹ : ℝ) : EReal)
  ∧ IdealRules.named_const.Statement Cert.KernelIdeal.κ "w_point" .f32 0x3A4CCCCD#32 ((1280⁻¹ : ℝ) : EReal)

def algebraic_KernelIdeal_ReferenceIdeal_pre_matched_below_inf [hKernelIdeal : Cert.KernelIdeal.Facts] [hReferenceIdeal : Cert.ReferenceIdeal.Facts] [hPre_matched_below_inf : Cert.Pre_matched_below_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_matched_below_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_matched_below_inf : Cert.Pre_matched_below_inf.Facts),
    quiescent_Kernel (hKernel := hKernel)
    ∧ quiescent_KernelIdeal (hKernelIdeal := hKernelIdeal)
    ∧ quiescent_KernelIdeal_pre_matched_below_inf (hKernelIdeal := hKernelIdeal) (hPre_matched_below_inf := hPre_matched_below_inf)
    ∧ quiescent_ReferenceIdeal (hReferenceIdeal := hReferenceIdeal)
    ∧ quiescent_ReferenceIdeal_pre_matched_below_inf (hReferenceIdeal := hReferenceIdeal) (hPre_matched_below_inf := hPre_matched_below_inf)
    ∧ preserves_Kernel_KernelIdeal
    ∧ algebraic_KernelIdeal_ReferenceIdeal_pre_matched_below_inf (hKernelIdeal := hKernelIdeal) (hReferenceIdeal := hReferenceIdeal) (hPre_matched_below_inf := hPre_matched_below_inf)
-- ==== Pre_matched_below_inf.lean ====
abbrev S32x2000x128 : Shape := ⟨3, ![32, 2000, 128]⟩
abbrev S32x2000x2 : Shape := ⟨3, ![32, 2000, 2]⟩
abbrev S32x200 : Shape := ⟨2, ![32, 200]⟩
abbrev S32x200x2 : Shape := ⟨3, ![32, 200, 2]⟩
abbrev S32x200x128 : Shape := ⟨3, ![32, 200, 128]⟩
abbrev S32x200x1 : Shape := ⟨3, ![32, 200, 1]⟩
abbrev S_ : Shape := ⟨0, ![]⟩

class Facts : Prop where
  slices_S32x2000x128_S32x200x128_0_0_0 : S32x2000x128.Slices ![0, 0, 0] S32x200x128
  bcast_S32x200_S32x200x1_0_1 : S32x200.BroadcastsInDim S32x200x1 (![0, 1] : Fin 2 → Fin S32x200x1.rank)
  bcast_S32x200x1_S32x200x128_0_1_2 : S32x200x1.BroadcastsInDim S32x200x128 (![0, 1, 2] : Fin 3 → Fin S32x200x128.rank)
  bcast_S_S32x200x128 : S_.BroadcastsInDim S32x200x128 (![] : Fin 0 → Fin S32x200x128.rank)
  reducesTo_S32x200x128_S_d0_1_2 : S32x200x128.ReducesTo [0, 1, 2] S_
  h_S_ : 0 < S_.numel

variable [Facts]

def fn_where {F : FTy → Type} [FloatOps F] (arg0 : IVec S32x200x128 1) (arg1 : FVec F S32x200x128 .f32) (arg2 : FVec F S_ .f32) : FVec F S32x200x128 .f32 :=
  let v0 : FVec F S_ .f32 := id arg2
  let v1 : FVec F S32x200x128 .f32 := broadcastInDim S32x200x128 ![] bcast_S_S32x200x128 v0
  let v2 : FVec F S32x200x128 .f32 := select arg0 arg1 v1
  v2

def fn {F : FTy → Type} [FloatOps F] (main_arg0 : FVec F S32x2000x128 .f32) (main_arg1 : FVec F S32x2000x2 .f32) (main_arg2 : IVec S32x200 32) (main_arg3 : FVec F S32x200x2 .f32) : IVec S_ 1 :=
  let main_v0 : FVec F S32x200x128 .f32 := (extractStridedSlice S32x200x128 ![0, 0, 0] · slices_S32x2000x128_S32x200x128_0_0_0) main_arg0
  let main_v1 : IVec S32x200x128 32 := iotaInDim S32x200x128 32 2
  let main_v2 : IVec S32x200x1 32 := broadcastInDim S32x200x1 ![0, 1] bcast_S32x200_S32x200x1_0_1 main_arg2
  let main_v3 : IVec S32x200x128 32 := broadcastInDim S32x200x128 ![0, 1, 2] bcast_S32x200x1_S32x200x128_0_1_2 main_v2
  let main_v4 : IVec S32x200x128 1 := cmpi .eq main_v3 main_v1
  let main_cst : FVec F S_ .f32 := constant S_ .f32 0x00000000#32
  let main_v5 : FVec F S32x200x128 .f32 := fn_where (F := F) main_v4 main_v0 main_cst
  let main_cst_0 : FVec F S_ .f32 := constant S_ .f32 0x7F800000#32
  let main_v6 : FVec F S32x200x128 .f32 := broadcastInDim S32x200x128 ![] bcast_S_S32x200x128 main_cst_0
  let main_v7 : IVec S32x200x128 1 := cmpf .olt main_v5 main_v6
  let main_c : IVec S_ 1 := constantI S_ 1 1#1
  let main_v8 : IVec S_ 1 := (fun x v => Host.reduce IntOp.andi x v reducesTo_S32x200x128_S_d0_1_2 h_S_) main_v7 main_c
  main_v8
-- ==== Kernel.lean ====
abbrev S32x2000x128 : Shape := ⟨3, ![32, 2000, 128]⟩
abbrev S32x2000x2 : Shape := ⟨3, ![32, 2000, 2]⟩
abbrev S32x200 : Shape := ⟨2, ![32, 200]⟩
abbrev S32x200x2 : Shape := ⟨3, ![32, 200, 2]⟩
abbrev S32x200x1 : Shape := ⟨3, ![32, 200, 1]⟩
abbrev S32x1x4000 : Shape := ⟨3, ![32, 1, 4000]⟩
abbrev S32x1x400 : Shape := ⟨3, ![32, 1, 400]⟩
abbrev S2 : Shape := ⟨1, ![2]⟩
abbrev S1x2000x128 : Shape := ⟨3, ![1, 2000, 128]⟩
abbrev S1x200x1 : Shape := ⟨3, ![1, 200, 1]⟩
abbrev S1x1x4000 : Shape := ⟨3, ![1, 1, 4000]⟩
abbrev S1x1x400 : Shape := ⟨3, ![1, 1, 400]⟩
abbrev S1 : Shape := ⟨1, ![1]⟩
abbrev S2000x128 : Shape := ⟨2, ![2000, 128]⟩
abbrev S1x1x1 : Shape := ⟨3, ![1, 1, 1]⟩
abbrev S200x128 : Shape := ⟨2, ![200, 128]⟩
abbrev S200x1 : Shape := ⟨2, ![200, 1]⟩
abbrev S1x200x128 : Shape := ⟨3, ![1, 200, 128]⟩
abbrev S1x4000 : Shape := ⟨2, ![1, 4000]⟩
abbrev S1x400 : Shape := ⟨2, ![1, 400]⟩

abbrev nBuf : Space → Nat
  | .hbm => 8
  | .vmem => 8
  | .smem => 1
  | _ => 0

abbrev bufTy : (tb : Table) → Fin (tcTables nBuf tb) → BufTy
  | .hbm, ⟨0, _⟩ => ⟨S32x2000x128, .f32⟩
  | .hbm, ⟨1, _⟩ => ⟨S32x2000x2, .f32⟩
  | .hbm, ⟨2, _⟩ => ⟨S32x200, .i32⟩
  | .hbm, ⟨3, _⟩ => ⟨S32x200x2, .f32⟩
  | .hbm, ⟨4, _⟩ => ⟨S32x200x1, .i32⟩
  | .hbm, ⟨5, _⟩ => ⟨S32x1x4000, .f32⟩
  | .hbm, ⟨6, _⟩ => ⟨S32x1x400, .f32⟩
  | .hbm, ⟨7, _⟩ => ⟨S2, .f32⟩
  | .local _ .vmem, ⟨0, _⟩ => ⟨S1x2000x128, .f32⟩
  | .local _ .vmem, ⟨1, _⟩ => ⟨S1x2000x128, .f32⟩
  | .local _ .vmem, ⟨2, _⟩ => ⟨S1x200x1, .i32⟩
  | .local _ .vmem, ⟨3, _⟩ => ⟨S1x200x1, .i32⟩
  | .local _ .vmem, ⟨4, _⟩ => ⟨S1x1x4000, .f32⟩
  | .local _ .vmem, ⟨5, _⟩ => ⟨S1x1x4000, .f32⟩
  | .local _ .vmem, ⟨6, _⟩ => ⟨S1x1x400, .f32⟩
  | .local _ .vmem, ⟨7, _⟩ => ⟨S1x1x400, .f32⟩
  | .local _ .smem, ⟨0, _⟩ => ⟨S2, .f32⟩
  | _, _ => ⟨S32x2000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S1x2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x200x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x400 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KernelIdeal.lean ====
variable {F : FTy → Type} [FloatOps F] [Named F]
def κ : String → Option EReal := fun
  | "w_ce" => some ((3200⁻¹ : ℝ) : EReal)
  | "w_point" => some ((1280⁻¹ : ℝ) : EReal)
  | _ => none
-- ==== ReferenceIdeal.lean ====
abbrev S32x2000x128 : Shape := ⟨3, ![32, 2000, 128]⟩
abbrev S32x2000x2 : Shape := ⟨3, ![32, 2000, 2]⟩
abbrev S32x200 : Shape := ⟨2, ![32, 200]⟩
abbrev S32x200x2 : Shape := ⟨3, ![32, 200, 2]⟩
abbrev S32 : Shape := ⟨1, ![32]⟩
abbrev S6400 : Shape := ⟨1, ![6400]⟩
abbrev S200 : Shape := ⟨1, ![200]⟩
abbrev S1x200 : Shape := ⟨2, ![1, 200]⟩
abbrev S_ : Shape := ⟨0, ![]⟩
abbrev S32x2000 : Shape := ⟨2, ![32, 2000]⟩
abbrev S6400x1 : Shape := ⟨2, ![6400, 1]⟩
abbrev S6400x2 : Shape := ⟨2, ![6400, 2]⟩
abbrev S32x2000x1 : Shape := ⟨3, ![32, 2000, 1]⟩
abbrev S1x1x129 : Shape := ⟨3, ![1, 1, 129]⟩
abbrev S32x2000x129 : Shape := ⟨3, ![32, 2000, 129]⟩
abbrev S1 : Shape := ⟨1, ![1]⟩
abbrev S2 : Shape := ⟨1, ![2]⟩

abbrev nBuf : Space → Nat
  | .hbm => 132
  | .vmem => 0
  | .smem => 0
  | _ => 0

abbrev hbmTy0_0 (i : Nat) : BufTy := match i % 128 with
  | 0 => ⟨S32x2000x128, .f32⟩
  | 1 => ⟨S32x2000x2, .f32⟩
  | 2 => ⟨S32x200, .i32⟩
  | 3 => ⟨S32x200x2, .f32⟩
  | 4 => ⟨S32, .i32⟩
  | 5 => ⟨S32x200, .i32⟩
  | 6 => ⟨S6400, .i32⟩
  | 7 => ⟨S200, .i32⟩
  | 8 => ⟨S1x200, .i32⟩
  | 9 => ⟨S32x200, .i32⟩
  | 10 => ⟨S6400, .i32⟩
  | 11 => ⟨S6400, .i32⟩
  | 12 => ⟨S_, .f32⟩
  | 13 => ⟨S_, .f32⟩
  | 14 => ⟨S_, .f32⟩
  | 15 => ⟨S_, .i32⟩
  | 16 => ⟨S32x2000, .i32⟩
  | 17 => ⟨S_, .i32⟩
  | 18 => ⟨S6400, .i32⟩
  | 19 => ⟨S6400, .i1⟩
  | 20 => ⟨S_, .i32⟩
  | 21 => ⟨S6400, .i32⟩
  | 22 => ⟨S6400, .i32⟩
  | 23 => ⟨S6400, .i32⟩
  | 24 => ⟨S_, .i32⟩
  | 25 => ⟨S6400, .i32⟩
  | 26 => ⟨S6400, .i1⟩
  | 27 => ⟨S_, .i32⟩
  | 28 => ⟨S6400, .i32⟩
  | 29 => ⟨S6400, .i32⟩
  | 30 => ⟨S6400, .i32⟩
  | 31 => ⟨S6400x1, .i32⟩
  | 32 => ⟨S6400x1, .i32⟩
  | 33 => ⟨S6400x2, .i32⟩
  | 34 => ⟨S32x2000, .i32⟩
  | 35 => ⟨S32x2000x1, .i32⟩
  | 36 => ⟨S1x1x129, .i32⟩
  | 37 => ⟨S32x2000x129, .i32⟩
  | 38 => ⟨S32x2000x129, .i32⟩
  | 39 => ⟨S32x2000x129, .i1⟩
  | 40 => ⟨S32x2000x129, .f32⟩
  | 41 => ⟨S32x2000x128, .f32⟩
  | 42 => ⟨S32x2000x128, .f32⟩
  | 43 => ⟨S32x2000x128, .f32⟩
  | 44 => ⟨S_, .f32⟩
  | 45 => ⟨S32x2000x128, .f32⟩
  | 46 => ⟨S32x2000x128, .f32⟩
  | 47 => ⟨S_, .f32⟩
  | 48 => ⟨S32x2000x128, .f32⟩
  | 49 => ⟨S32x2000x128, .f32⟩
  | 50 => ⟨S_, .f32⟩
  | 51 => ⟨S32x2000x128, .f32⟩
  | 52 => ⟨S32x2000x128, .f32⟩
  | 53 => ⟨S32x2000x128, .f32⟩
  | 54 => ⟨S32x2000x128, .f32⟩
  | 55 => ⟨S32x2000x128, .f32⟩
  | 56 => ⟨S32x2000x128, .f32⟩
  | 57 => ⟨S32x2000x128, .f32⟩
  | 58 => ⟨S32x2000x128, .f32⟩
  | 59 => ⟨S32x2000x128, .f32⟩
  | 60 => ⟨S32x2000x128, .f32⟩
  | 61 => ⟨S_, .f32⟩
  | 62 => ⟨S32x2000x128, .f32⟩
  | 63 => ⟨S32x2000x128, .f32⟩
  | 64 => ⟨S_, .f32⟩
  | 65 => ⟨S32x2000x128, .f32⟩
  | 66 => ⟨S32x2000x128, .f32⟩
  | 67 => ⟨S32x2000x128, .f32⟩
  | 68 => ⟨S32x2000x128, .f32⟩
  | 69 => ⟨S_, .f32⟩
  | 70 => ⟨S32x2000x128, .f32⟩
  | 71 => ⟨S32x2000x128, .f32⟩
  | 72 => ⟨S_, .f32⟩
  | 73 => ⟨S32x2000x128, .f32⟩
  | 74 => ⟨S32x2000x128, .f32⟩
  | 75 => ⟨S32x2000x128, .f32⟩
  | 76 => ⟨S_, .f32⟩
  | 77 => ⟨S32x2000x128, .f32⟩
  | 78 => ⟨S32x2000x128, .f32⟩
  | 79 => ⟨S_, .f32⟩
  | 80 => ⟨S32x2000x128, .f32⟩
  | 81 => ⟨S32x2000x128, .f32⟩
  | 82 => ⟨S_, .f32⟩
  | 83 => ⟨S32x2000x128, .f32⟩
  | 84 => ⟨S32x2000x128, .f32⟩
  | 85 => ⟨S32x2000x128, .f32⟩
  | 86 => ⟨S32x2000x128, .f32⟩
  | 87 => ⟨S_, .f32⟩
  | 88 => ⟨S_, .f32⟩
  | 89 => ⟨S_, .f32⟩
  | 90 => ⟨S_, .f32⟩
  | 91 => ⟨S_, .f32⟩
  | 92 => ⟨S_, .i32⟩
  | 93 => ⟨S6400, .i32⟩
  | 94 => ⟨S6400, .i1⟩
  | 95 => ⟨S_, .i32⟩
  | 96 => ⟨S6400, .i32⟩
  | 97 => ⟨S6400, .i32⟩
  | 98 => ⟨S6400, .i32⟩
  | 99 => ⟨S_, .i32⟩
  | 100 => ⟨S6400, .i32⟩
  | 101 => ⟨S6400, .i1⟩
  | 102 => ⟨S_, .i32⟩
  | 103 => ⟨S6400, .i32⟩
  | 104 => ⟨S6400, .i32⟩
  | 105 => ⟨S6400, .i32⟩
  | 106 => ⟨S6400x1, .i32⟩
  | 107 => ⟨S6400x1, .i32⟩
  | 108 => ⟨S6400x2, .i32⟩
  | 109 => ⟨S6400x2, .f32⟩
  | 110 => ⟨S6400x2, .f32⟩
  | 111 => ⟨S6400x2, .f32⟩
  | 112 => ⟨S6400x2, .f32⟩
  | 113 => ⟨S_, .f32⟩
  | 114 => ⟨S6400x2, .f32⟩
  | 115 => ⟨S6400x2, .i1⟩
  | 116 => ⟨S_, .f32⟩
  | 117 => ⟨S6400x2, .f32⟩
  | 118 => ⟨S6400x2, .f32⟩
  | 119 => ⟨S6400x2, .f32⟩
  | 120 => ⟨S_, .f32⟩
  | 121 => ⟨S6400x2, .f32⟩
  | 122 => ⟨S6400x2, .f32⟩
  | 123 => ⟨S6400x2, .f32⟩
  | 124 => ⟨S_, .f32⟩
  | 125 => ⟨S_, .f32⟩
  | 126 => ⟨S_, .f32⟩
  | 127 => ⟨S_, .f32⟩
  | _ => ⟨S32x2000x128, .f32⟩

abbrev hbmTy0_1 (i : Nat) : BufTy := match i % 128 with
  | 0 => ⟨S_, .f32⟩
  | 1 => ⟨S1, .f32⟩
  | 2 => ⟨S1, .f32⟩
  | 3 => ⟨S2, .f32⟩
  | _ => ⟨S32x2000x128, .f32⟩

abbrev hbmTy (i : Nat) : BufTy := match i / 128 with
  | 0 => hbmTy0_0 i
  | 1 => hbmTy0_1 i
  | _ => ⟨S32x2000x128, .f32⟩

abbrev bufTy : (tb : Table) → Fin (tcTables nBuf tb) → BufTy
  | .hbm, ⟨i, _⟩ => hbmTy i
  | _, _ => ⟨S32x2000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_cst_0 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_c_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_cst_11 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_12 : Ref sig .tc := ⟨.hbm, 76, rfl⟩
abbrev main_v53 : Ref sig .tc := ⟨.hbm, 77, rfl⟩
abbrev main_v54 : Ref sig .tc := ⟨.hbm, 78, rfl⟩
abbrev main_cst_13 : Ref sig .tc := ⟨.hbm, 79, rfl⟩
abbrev main_v55 : Ref sig .tc := ⟨.hbm, 80, rfl⟩
abbrev main_v56 : Ref sig .tc := ⟨.hbm, 81, rfl⟩
abbrev main_cst_14 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_15 : Ref sig .tc := ⟨.hbm, 87, rfl⟩
abbrev main_v61 : Ref sig .tc := ⟨.hbm, 88, rfl⟩
abbrev main_v62 : Ref sig .tc := ⟨.hbm, 89, rfl⟩
abbrev main_cst_16 : Ref sig .tc := ⟨.hbm, 90, rfl⟩
abbrev main_v63 : Ref sig .tc := ⟨.hbm, 91, rfl⟩
abbrev main_c_17 : Ref sig .tc := ⟨.hbm, 92, rfl⟩
abbrev main_v64 : Ref sig .tc := ⟨.hbm, 93, rfl⟩
abbrev main_v65 : Ref sig .tc := ⟨.hbm, 94, rfl⟩
abbrev main_c_18 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_c_19 : Ref sig .tc := ⟨.hbm, 99, rfl⟩
abbrev main_v69 : Ref sig .tc := ⟨.hbm, 100, rfl⟩
abbrev main_v70 : Ref sig .tc := ⟨.hbm, 101, rfl⟩
abbrev main_c_20 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_21 : Ref sig .tc := ⟨.hbm, 113, rfl⟩
abbrev main_v81 : Ref sig .tc := ⟨.hbm, 114, rfl⟩
abbrev main_v82 : Ref sig .tc := ⟨.hbm, 115, rfl⟩
abbrev main_cst_22 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_23 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_24 : Ref sig .tc := ⟨.hbm, 124, rfl⟩
abbrev main_v89 : Ref sig .tc := ⟨.hbm, 125, rfl⟩
abbrev main_v90 : Ref sig .tc := ⟨.hbm, 126, rfl⟩
abbrev main_cst_25 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩

abbrev nD : Nat := 1
abbrev τ : Topo := Topo.v7x

variable {F : FTy → Type} [FloatOps F]
-- ==== Proof.Consts.lean ====
/- The float constants that the two programs spell, each as the real number its bit pattern denotes at `Ideal`. -/
module

public import Idealize.ShloMosaic.PureOps.Ideal

@[expose] public section

noncomputable section

namespace Cert.DetectionLoss

open Idealize.ShloMosaic

/-- The pattern of `0.25` denotes a quarter. -/
theorem pattern_quarter : Ideal.ofBits .f32 0x3E800000#32 = ((1 / 4 : ℝ) : EReal) := by
  simp [Ideal.ofBits, Ideal.ieee, -EReal.coe_mul]; norm_num

/-- The pattern of `0.75` denotes three quarters. -/
theorem pattern_three_quarters : Ideal.ofBits .f32 0x3F400000#32 = ((3 / 4 : ℝ) : EReal) := by
  simp [Ideal.ofBits, Ideal.ieee, -EReal.coe_mul]; norm_num

/-- The pattern of `2.0` denotes two. -/
theorem pattern_two : Ideal.ofBits .f32 0x40000000#32 = ((2 : ℝ) : EReal) := by
  simp [Ideal.ofBits, Ideal.ieee, -EReal.coe_mul]; norm_num

/-- The pattern of `5.0` denotes five. -/
theorem pattern_five : Ideal.ofBits .f32 0x40A00000#32 = ((5 : ℝ) : EReal) := by
  simp [Ideal.ofBits, Ideal.ieee, -EReal.coe_mul]; norm_num

/-- The pattern of `6400.0`, the number of matched boxes, denotes 6400. -/
theorem pattern_boxes : Ideal.ofBits .f32 0x45C80000#32 = ((6400 : ℝ) : EReal) := by
  simp [Ideal.ofBits, Ideal.ieee, -EReal.coe_mul]; norm_num

/-- The pattern of `+∞` denotes `⊤`. -/
theorem pattern_inf : Ideal.ofBits .f32 0x7F800000#32 = (⊤ : EReal) := by
  simp [Ideal.ofBits, Ideal.ieee]

end Cert.DetectionLoss

end
-- ==== Proof.Focal.lean ====
/- The focal loss of one logit, in the two forms in which the programs compute it, as functions on the extended reals;
   and that they agree: at an unmatched logit always, at a matched one unless the logit is `+∞`.
   Also the smooth L1 loss of one coordinate difference, which both programs compute in the same form. -/
module

public import Idealize.ShloMosaic.Lib.Pointwise
public import proofs.«01_k».proof.Proof.Consts

@[expose] public section

noncomputable section

namespace Cert.DetectionLoss

open Idealize.ShloMosaic

/-! ## The definitions -/

/-- `exp(-|x|)`, which the kernel uses for the sigmoid and for the logarithm. -/
def decay (x : EReal) : EReal := Ideal.exp (0 - max x (-x))

/-- `log(1 + exp(-|x|))`. -/
def tail (x : EReal) : EReal := Ideal.log1p (decay x)

/-- The kernel's sigmoid: by `exp(-|x|)`, in one form for `x ≥ 0` and in another for `x < 0`. -/
def prob (x : EReal) : EReal :=
  if 0 ≤ x then Ideal.div 1 (1 + decay x) else decay x * Ideal.div 1 (1 + decay x)

/-- The kernel's loss of a logit whose class is not the target. -/
def negLoss (x : EReal) : EReal :=
  Ideal.ofBits .f32 0x3F400000#32 * (prob x * prob x) * (max x 0 + tail x)

/-- The kernel's loss of a logit whose class is the target. -/
def posLoss (x : EReal) : EReal :=
  Ideal.ofBits .f32 0x3E800000#32 * ((1 - prob x) * (1 - prob x)) * (max x 0 - x + tail x)

/-- The reference's sigmoid. -/
def sigmoid (x : EReal) : EReal := Ideal.div 1 (1 + Ideal.exp (-x))

/-- The reference's focal loss of a logit `x` with target `t` (0 or 1):
    the weighted cross entropy times the square of the distance of the probability from the target. -/
def refLoss (x t : EReal) : EReal :=
  (Ideal.ofBits .f32 0x3E800000#32 * t + Ideal.ofBits .f32 0x3F400000#32 * (1 - t))
    * ((max x 0 - x * t + Ideal.log1p (Ideal.exp (-(max x (-x)))))
      * Ideal.pow (1 - (sigmoid x * t + (1 - sigmoid x) * (1 - t))) (Ideal.ofBits .f32 0x40000000#32))

/-- The smooth L1 loss of one coordinate difference: half its square inside the unit, linear outside. -/
def smoothL1 (d : EReal) : EReal :=
  if max d (-d) < 1 then Ideal.ofBits .f32 0x3F000000#32 * d * d else max d (-d) - Ideal.ofBits .f32 0x3F000000#32

/-! ## At a real logit everything is real -/

/-- At a real logit the decay is the real `exp(-|x|)`. -/
theorem decay_real (r : ℝ) : decay r = ((Real.exp (-|r|) : ℝ) : EReal) := by
  unfold decay
  rw [← EReal.coe_neg, ← EReal.coe_strictMono.monotone.map_max, ← EReal.coe_zero, ← EReal.coe_sub, Ideal.exp_coe, zero_sub]
  rfl

/-- The logarithm of one plus a nonnegative real is the real one. -/
theorem log1p_real {e : ℝ} (h : 0 ≤ e) : Ideal.log1p (e : EReal) = ((Real.log (1 + e) : ℝ) : EReal) := by
  rw [Ideal.log1p, ← EReal.coe_one, ← EReal.coe_add, Ideal.log_coe, if_neg (by linarith)]

/-- At a real logit the tail is a real. -/
theorem tail_real (r : ℝ) : tail r = ((Real.log (1 + Real.exp (-|r|)) : ℝ) : EReal) := by
  rw [tail, decay_real, log1p_real (Real.exp_pos _).le]

/-- One over one plus a nonnegative real is the real reciprocal. -/
theorem div_one_add_real {e : ℝ} (h : 0 ≤ e) : Ideal.div 1 (1 + (e : EReal)) = ((1 / (1 + e) : ℝ) : EReal) := by
  rw [← EReal.coe_one, ← EReal.coe_add, Ideal.div_coe (by linarith), EReal.coe_one, one_mul]

/-- The reference's sigmoid at a real logit. -/
theorem sigmoid_real (r : ℝ) : sigmoid r = ((1 / (1 + Real.exp (-r)) : ℝ) : EReal) := by
  rw [sigmoid, ← EReal.coe_neg, Ideal.exp_coe, div_one_add_real (Real.exp_pos _).le]

/-- At a real logit the kernel's sigmoid is the reference's. -/
theorem prob_real (r : ℝ) : prob r = ((1 / (1 + Real.exp (-r)) : ℝ) : EReal) := by
  rw [prob, decay_real, div_one_add_real (Real.exp_pos _).le]
  by_cases h : 0 ≤ r
  · rw [if_pos (by exact_mod_cast h), abs_of_nonneg h]
  · have hr : r < 0 := not_le.1 h
    rw [if_neg (by exact_mod_cast h), abs_of_neg hr, neg_neg, ← EReal.coe_mul]
    congr 1
    rw [Real.exp_neg]
    have := Real.exp_pos r
    field_simp
    ring

/-- The maximum with zero of a real logit is a real. -/
theorem max_zero_real (r : ℝ) : max (r : EReal) 0 = ((max r 0 : ℝ) : EReal) := by
  rw [← EReal.coe_zero, ← EReal.coe_strictMono.monotone.map_max]

/-- The kernel's unmatched loss at a real logit. -/
theorem negLoss_real (r : ℝ) : negLoss r
    = ((3 / 4 * (1 / (1 + Real.exp (-r)) * (1 / (1 + Real.exp (-r)))) * (max r 0 + Real.log (1 + Real.exp (-|r|))) : ℝ) : EReal) := by
  rw [negLoss, prob_real, tail_real, max_zero_real, pattern_three_quarters]
  norm_cast

/-- The kernel's matched loss at a real logit. -/
theorem posLoss_real (r : ℝ) : posLoss r
    = ((1 / 4 * ((1 - 1 / (1 + Real.exp (-r))) * (1 - 1 / (1 + Real.exp (-r)))) * (max r 0 - r + Real.log (1 + Real.exp (-|r|))) : ℝ) : EReal) := by
  rw [posLoss, prob_real, tail_real, max_zero_real, pattern_quarter, ← EReal.coe_one]
  norm_cast

/-- The reference's loss at a real logit and a real target. -/
theorem refLoss_real (r t : ℝ) : refLoss r t
    = (((1 / 4 * t + 3 / 4 * (1 - t)) * ((max r 0 - r * t + Real.log (1 + Real.exp (-|r|)))
        * (1 - (1 / (1 + Real.exp (-r)) * t + (1 - 1 / (1 + Real.exp (-r))) * (1 - t))) ^ 2) : ℝ) : EReal) := by
  have ht := tail_real r
  rw [tail, decay, zero_sub] at ht
  rw [refLoss, sigmoid_real, ht, max_zero_real, pattern_quarter, pattern_three_quarters, pattern_two, ← EReal.coe_one,
    ← EReal.coe_sub, ← EReal.coe_sub, ← EReal.coe_mul, ← EReal.coe_mul, ← EReal.coe_mul, ← EReal.coe_mul, ← EReal.coe_mul,
    ← EReal.coe_add, ← EReal.coe_add, ← EReal.coe_sub, ← EReal.coe_sub, ← EReal.coe_add, Ideal.pow_coe_coe, ← EReal.coe_mul,
    ← EReal.coe_mul]
  congr 4
  exact Real.rpow_two _

/-! ## At the two infinities -/

/-- The decay vanishes at `-∞`. -/
theorem decay_bot : decay ⊥ = 0 := by simp [decay]
/-- The decay vanishes at `+∞`. -/
theorem decay_top : decay ⊤ = 0 := by simp [decay]
/-- The logarithm of one is zero. -/
theorem log1p_zero : Ideal.log1p 0 = 0 := by
  have h := log1p_real (le_refl (0 : ℝ))
  rwa [EReal.coe_zero, add_zero, Real.log_one, EReal.coe_zero] at h
/-- One over one. -/
theorem div_one_one : Ideal.div 1 (1 + 0) = 1 := by
  have h := div_one_add_real (le_refl (0 : ℝ))
  rwa [EReal.coe_zero, add_zero (1 : ℝ), div_one, EReal.coe_one] at h
/-- The reference's sigmoid vanishes at `-∞`. -/
theorem sigmoid_bot : sigmoid ⊥ = 0 := by
  rw [sigmoid, EReal.neg_bot, Ideal.exp_top, EReal.add_top_of_ne_bot (show (1 : EReal) ≠ ⊥ from EReal.coe_ne_bot 1)]
  simp [Ideal.div]
/-- The reference's sigmoid is one at `+∞`. -/
theorem sigmoid_top : sigmoid ⊤ = 1 := by
  rw [sigmoid, EReal.neg_top, Ideal.exp_bot, div_one_one]
/-- The kernel's sigmoid vanishes at `-∞`. -/
theorem prob_bot : prob ⊥ = 0 := by rw [prob, decay_bot, zero_mul]; simp
/-- The kernel's sigmoid is one at `+∞`. -/
theorem prob_top : prob ⊤ = 1 := by rw [prob, decay_top, if_pos le_top, div_one_one]
/-- One squared. -/
theorem pow_one_two : Ideal.pow 1 ((2 : ℝ) : EReal) = 1 := by
  rw [← EReal.coe_one, Ideal.pow_coe_coe]; congr 1; exact Real.one_rpow 2
/-- Zero squared. -/
theorem pow_zero_two : Ideal.pow 0 ((2 : ℝ) : EReal) = 0 := by
  rw [← EReal.coe_zero, Ideal.pow_coe_coe]; congr 1; exact Real.zero_rpow two_ne_zero
/-- One less one. -/
theorem one_sub_one : (1 : EReal) - 1 = 0 := by rw [← EReal.coe_one, ← EReal.coe_sub, sub_self, EReal.coe_zero]

/-- The kernel's unmatched loss vanishes at `-∞`. -/
theorem negLoss_bot : negLoss ⊥ = 0 := by rw [negLoss, prob_bot, mul_zero, mul_zero, zero_mul]
/-- The kernel's unmatched loss is `+∞` at `+∞`. -/
theorem negLoss_top : negLoss ⊤ = ⊤ := by
  rw [negLoss, prob_top, tail, decay_top, log1p_zero, pattern_three_quarters, mul_one, mul_one, add_zero, max_eq_left le_top]
  exact EReal.coe_mul_top_of_pos (by norm_num)
/-- The kernel's matched loss is `+∞` at `-∞`. -/
theorem posLoss_bot : posLoss ⊥ = ⊤ := by
  rw [posLoss, prob_bot, tail, decay_bot, log1p_zero, pattern_quarter, sub_zero, mul_one, mul_one, add_zero, max_eq_right bot_le,
    sub_eq_add_neg, EReal.neg_bot, zero_add]
  exact EReal.coe_mul_top_of_pos (by norm_num)

/-! ## The two forms agree -/

/-- **An unmatched logit**, whatever it is: the kernel's loss is the reference's with target 0. -/
theorem focal_unmatched (x : EReal) : negLoss x = refLoss x 0 := by
  induction x with
  | bot =>
    rw [negLoss_bot, refLoss, sigmoid_bot, pattern_two]
    simp only [mul_zero, zero_mul, zero_add, sub_zero, mul_one, one_sub_one, pow_zero_two]
  | top =>
    rw [negLoss_top, refLoss, sigmoid_top, pattern_two]
    simp only [mul_zero, zero_add, sub_zero, mul_one, one_sub_one, pow_one_two, EReal.neg_top, max_eq_left le_top, Ideal.exp_bot, log1p_zero, add_zero,
      pattern_three_quarters]
    exact (EReal.coe_mul_top_of_pos (by norm_num)).symm
  | coe r =>
    rw [negLoss_real, ← EReal.coe_zero, refLoss_real]
    congr 1
    ring

/-- **A matched logit other than `+∞`**: the kernel's unmatched loss with its correction is the reference's loss with target 1. -/
theorem focal_matched (x : EReal) (h : x < ⊤) : negLoss x + (posLoss x - negLoss x) = refLoss x 1 := by
  induction x with
  | bot =>
    rw [negLoss_bot, posLoss_bot, refLoss, sigmoid_bot, pattern_two]
    simp only [mul_zero, zero_mul, zero_add, sub_zero, mul_one, one_sub_one, pow_one_two, max_eq_right bot_le, EReal.neg_bot, EReal.neg_top, Ideal.exp_bot,
      log1p_zero, add_zero, pattern_quarter, zero_sub]
    exact (EReal.coe_mul_top_of_pos (show (0 : ℝ) < 1 / 4 by norm_num)).symm
  | top => exact absurd h (lt_irrefl _)
  | coe r =>
    rw [negLoss_real, posLoss_real, ← EReal.coe_one, refLoss_real, ← EReal.coe_sub, ← EReal.coe_add]
    congr 1
    ring

end Cert.DetectionLoss

end
-- ==== Proof.Block.lean ====
/- What one block computes, on the extended reals: the numbers the kernel adds for one image. -/
module

public import proofs.«01_k».proof.Proof.Gen.KernelIdeal.Value
public import proofs.«01_k».proof.Proof.Focal

@[expose] public section

set_option maxRecDepth 16384

noncomputable section

open Idealize.ShloMosaic Idealize.ShloMosaic.TcCoe Idealize.SL.Sem

namespace Cert.KernelIdeal.Hand

open Cert.KernelIdeal Cert.KernelIdeal.Gen Cert.DetectionLoss

/-- The focal loss of one image, as the kernel sums it: every logit as unmatched, then the correction at the label of every box. -/
def blockFocal (x : FVec Ideal S1x2000x128 .f32) (l : IVec S1x200x1 32) : EReal :=
  (∑ q : Fin 2000, ∑ k : Fin 128, negLoss (x (ix3 (0 : Fin 1) q k)))
    + ∑ g : Fin 200, ∑ k : Fin 128, if l (ix3 (0 : Fin 1) g (0 : Fin 1)) = BitVec.ofNat 32 k.val
        then posLoss (x (ix3 (0 : Fin 1) (⟨g.val, by omega⟩ : Fin 2000) k)) - negLoss (x (ix3 (0 : Fin 1) (⟨g.val, by omega⟩ : Fin 2000) k)) else 0

/-- The smooth L1 loss of one image: over the 400 coordinates of its 200 matched points. -/
def blockPoint (p : FVec Ideal S1x1x4000 .f32) (t : FVec Ideal S1x1x400 .f32) : EReal :=
  ∑ k : Fin 400, smoothL1 (p (ix3 (0 : Fin 1) (0 : Fin 1) (⟨k.val, by omega⟩ : Fin 4000)) - t (ix3 (0 : Fin 1) (0 : Fin 1) k))

/-- The named weight of the first sum. -/
theorem weight_ce : Named.named (F := Ideal) κ "w_ce" (φ := .f32) 0x39A3D70A#32 = ((3200⁻¹ : ℝ) : EReal) :=
  IdealRules.named_const.ideal_named_scalar _ _ _ _ rfl

/-- The named weight of the second sum. -/
theorem weight_point : Named.named (F := Ideal) κ "w_point" (φ := .f32) 0x3A4CCCCD#32 = ((1280⁻¹ : ℝ) : EReal) :=
  IdealRules.named_const.ideal_named_scalar _ _ _ _ rfl

/-- The unmatched sum of one image. -/
theorem unmatched_sum (x : FVec Ideal S1x2000x128 .f32) :
    k0_pay9 (F := Ideal) x = ∑ q : Fin 2000, ∑ k : Fin 128, negLoss (x (ix3 (0 : Fin 1) q k)) := by
  pointwise [k0_pay9, k0_pay8, k0_pay7, k0_pay6, k0_pay5, k0_pay4, k0_pay3, negLoss, prob, tail, decay, Ideal.absf_def]

/-- A choice by an equality of words. -/
theorem choose_eq (a b : BitVec 32) (x y : EReal) : Scalar.select (IntOp.cmpi .eq a b) x y = if a = b then x else y := by
  by_cases h : a = b
  · rw [if_pos h, IntOp.cmpi, beq_iff_eq.mpr h]
    rfl
  · rw [if_neg h, IntOp.cmpi, beq_eq_false_iff_ne.mpr h]
    rfl

/-- The first entry's step: the accumulator plus the image's focal loss. -/
theorem focal_step (x : FVec Ideal S1x2000x128 .f32) (l : IVec S1x200x1 32) (a : EReal) :
    k0_pay11 (F := Ideal) (k0_pay8 x) (k0_pay9 x) (k0_pay10 x) l a = a + blockFocal x l := by
  rw [unmatched_sum]
  pointwise [k0_pay11, k0_pay10, k0_pay8, k0_pay7, k0_pay6, k0_pay5, k0_pay4, k0_pay3, blockFocal, posLoss, negLoss, prob, tail, decay, Ideal.absf_def]
  simp only [choose_eq]

/-- The second entry's step: the accumulator plus the image's smooth L1 loss. -/
theorem point_step (p : FVec Ideal S1x1x4000 .f32) (t : FVec Ideal S1x1x400 .f32) (a : EReal) :
    k0_pay12 (F := Ideal) p t a = a + blockPoint p t := by
  pointwise [k0_pay12, blockPoint, smoothL1, Ideal.absf_def]
  rw [Fin.sum_univ_one]

/-- The last step of the first entry: the weight. -/
theorem focal_weigh (a : EReal) : k0_pay1 (F := Ideal) a = a * ((3200⁻¹ : ℝ) : EReal) := by
  pointwise [k0_pay1]
  rw [weight_ce]

/-- The last step of the second entry: the weight. -/
theorem point_weigh (a : EReal) : k0_pay2 (F := Ideal) a = a * ((1280⁻¹ : ℝ) : EReal) := by
  pointwise [k0_pay2]
  rw [weight_point]

end Cert.KernelIdeal.Hand

end
-- ==== Proof.Accumulate.lean ====
/- What the kernel's output array holds: the two sums over the images, each times its weight. -/
module

public import proofs.«01_k».proof.Proof.Block
public import Idealize.ShloMosaic.Lib.Pipeline.ValueKit

@[expose] public section

set_option maxRecDepth 16384

noncomputable section

open Idealize.ShloMosaic Idealize.ShloMosaic.TcCoe Idealize.SL.Sem

namespace Cert.KernelIdeal.Hand

open Cert.KernelIdeal Cert.KernelIdeal.Gen Cert.DetectionLoss

/-- A number that starts at the first of 32 parts, gains one part at each step and is weighed with the last one, is the weighed sum of the parts. -/
theorem weighed_sum (N : ℕ) (hN : N = 32) (o p : (n : ℕ) → n < N → EReal) (w : EReal) (first : ∀ h, o 0 h = p 0 h)
    (middle : ∀ n (h : n + 1 < N), n + 1 < 31 → o (n + 1) h = o n (Nat.lt_of_succ_lt h) + p (n + 1) h)
    (last : ∀ (h : 31 < N) (h' : 30 < N), o 31 h = (o 30 h' + p 31 h) * w) (h : 31 < N) :
    o 31 h = (∑ s : Fin 32, p s.val (lt_of_lt_of_eq s.isLt hN.symm)) * w := by
  subst hN
  have run : ∀ n (h : n < 32), n < 31 → o n h = ∑ s : Fin (n + 1), p s.val (lt_of_lt_of_le s.isLt h) := by
    intro n
    induction n with
    | zero => intro h _; rw [Fin.sum_univ_one]; exact first h
    | succ n ih => intro h hl; rw [middle n h hl, ih (Nat.lt_of_succ_lt h) (by omega), Fin.sum_univ_castSucc (n := n + 1)]; rfl
  rw [last h (by decide), run 30 (by decide) (by decide), Fin.sum_univ_castSucc (n := 31)]
  rfl

variable (m : (ℓ : Loc nD τ sig) → Buf (Elt Ideal) ℓ)

/-- There are 32 grid points, one to an image. -/
theorem points : cfg0.N = 32 := N_0

/-- The focal loss of the blocks of point `n`. -/
def focalAt (c : Dev nD) (n : ℕ) (hn : n < cfg0.N) : EReal := blockFocal (iblk m c 0 ⟨n, hn⟩) (iblk m c 1 ⟨n, hn⟩)

/-- The smooth L1 loss of the blocks of point `n`. -/
def pointAt (c : Dev nD) (n : ℕ) (hn : n < cfg0.N) : EReal := blockPoint (iblk m c 2 ⟨n, hn⟩) (iblk m c 3 ⟨n, hn⟩)

/-- A store through the second entry, last, is what the second entry holds. -/
theorem stored_second (a : EReal) (L : List (View.Piece (Elt Ideal) S2 .f32)) :
    View.canon ((⟨Rect.unit ![1] ![1] inb_S2_S1_1, fun _ => a⟩ : View.Piece (Elt Ideal) S2 .f32) :: L) (ix1 (1 : Fin 2)) = a := by
  have e : (ix1 (1 : Fin 2) : S2.Idx) = (Rect.unit (s := S2) ![1] ![1] inb_S2_S1_1).emb (ix1 (0 : Fin 1)) := by
    funext d
    match d with
    | ⟨0, _⟩ => rfl
  rw [e]
  exact View.canon_cons_emb _ _ L _

/-- A store through the first entry, followed only by one through the second, is what the first entry holds. -/
theorem stored_first (a : EReal) (w : S1.Idx → EReal) (L : List (View.Piece (Elt Ideal) S2 .f32)) :
    View.canon ((⟨Rect.unit ![1] ![1] inb_S2_S1_1, w⟩ : View.Piece (Elt Ideal) S2 .f32) :: ⟨Rect.unit ![0] ![1] inb_S2_S1_0, fun _ => a⟩ :: L) (ix1 (0 : Fin 2)) = a := by
  have e : (ix1 (0 : Fin 2) : S2.Idx) = (Rect.unit (s := S2) ![0] ![1] inb_S2_S1_0).emb (ix1 (0 : Fin 1)) := by
    funext d
    match d with
    | ⟨0, _⟩ => rfl
  rw [View.canon_cons_of_not_mem]
  · rw [e]
    exact View.canon_cons_emb _ _ L _
  · intro h
    have h' := (Rect.mem_set_unit (inb := inb_S2_S1_1)).mp h
    exact absurd (h' 0).1 (by decide)

/-- A load of the first entry. -/
theorem loaded_first (X : S2.Idx → EReal) (h : 0 < S1.numel) :
    View.ld (Val := Elt Ideal) (e' := .f32) X (Rect.unit (s := S2) ![0] ![1] inb_S2_S1_0) (Shape.Idx.first (s := S1) h) = X (ix1 (0 : Fin 2)) :=
  congrArg X (funext fun a => by
    match a with
    | ⟨0, _⟩ => rfl)

/-- A load of the second entry. -/
theorem loaded_second (X : S2.Idx → EReal) (h : 0 < S1.numel) :
    View.ld (Val := Elt Ideal) (e' := .f32) X (Rect.unit (s := S2) ![1] ![1] inb_S2_S1_1) (Shape.Idx.first (s := S1) h) = X (ix1 (1 : Fin 2)) :=
  congrArg X (funext fun a => by
    match a with
    | ⟨0, _⟩ => rfl)

/-- The word of the accumulators' start is zero. -/
theorem start_zero : (FloatOps.ofBits (F := Ideal) FTy.f32 0#32 : EReal) = 0 := Ideal.ofBits_zero_f32

/-- The first point leaves its own losses. -/
theorem first_point (c : Dev nD) (t : Fin cfg0.N) (h0 : t.val % 32 = 0) (h1 : ¬t.val % 32 = 31) :
    outsAt0 m c t.val t.isLt (ix1 (0 : Fin 2)) = focalAt m c t.val t.isLt ∧ outsAt0 m c t.val t.isLt (ix1 (1 : Fin 2)) = pointAt m c t.val t.isLt := by
  rw [outsAt0_A m c t h0 h1]
  frame_out
  constructor
  · refine (stored_first _ _ _).trans ?_
    rw [focal_step, start_zero, zero_add]
    rfl
  · refine (stored_second _ _).trans ?_
    rw [point_step, start_zero, zero_add]
    rfl

/-- A middle point adds its losses to what the point before left. -/
theorem middle_point (c : Dev nD) (t : Fin cfg0.N) (h0 : ¬t.val % 32 = 0) (h1 : ¬t.val % 32 = 31) (hp : t.val - 1 < cfg0.N) :
    outsAt0 m c t.val t.isLt (ix1 (0 : Fin 2)) = outsAt0 m c (t.val - 1) hp (ix1 (0 : Fin 2)) + focalAt m c t.val t.isLt
      ∧ outsAt0 m c t.val t.isLt (ix1 (1 : Fin 2)) = outsAt0 m c (t.val - 1) hp (ix1 (1 : Fin 2)) + pointAt m c t.val t.isLt := by
  rw [outsAt0_B m c t h0 h1]
  frame_out
  constructor
  · refine (stored_first _ _ _).trans ?_
    rw [focal_step, loaded_first]
    rfl
  · refine (stored_second _ _).trans ?_
    rw [point_step, loaded_second]
    rfl

/-- The last point adds its losses to what the point before left, and weighs both. -/
theorem last_point (c : Dev nD) (t : Fin cfg0.N) (h0 : ¬t.val % 32 = 0) (h1 : t.val % 32 = 31) (hp : t.val - 1 < cfg0.N) :
    outsAt0 m c t.val t.isLt (ix1 (0 : Fin 2)) = (outsAt0 m c (t.val - 1) hp (ix1 (0 : Fin 2)) + focalAt m c t.val t.isLt) * ((3200⁻¹ : ℝ) : EReal)
      ∧ outsAt0 m c t.val t.isLt (ix1 (1 : Fin 2)) = (outsAt0 m c (t.val - 1) hp (ix1 (1 : Fin 2)) + pointAt m c t.val t.isLt) * ((1280⁻¹ : ℝ) : EReal) := by
  rw [outsAt0_C m c t h0 h1]
  frame_out
  constructor
  · refine (stored_first _ _ _).trans ?_
    rw [focal_weigh, focal_step, loaded_first]
    rfl
  · refine (stored_second _ _).trans ?_
    rw [point_weigh, point_step, loaded_second]
    rfl

/-- The last point's number. -/
theorem last_lt : 31 < cfg0.N := by rw [points]; decide

/-- **After the last point, the first entry** is the sum of the images' focal losses, weighed. -/
theorem weighed_focal (c : Dev nD) :
    outsAt0 m c 31 last_lt (ix1 (0 : Fin 2)) = (∑ s : Fin 32, focalAt m c s.val (lt_of_lt_of_eq s.isLt points.symm)) * ((3200⁻¹ : ℝ) : EReal) :=
  weighed_sum cfg0.N points (fun n h => outsAt0 m c n h (ix1 (0 : Fin 2))) (focalAt m c) _
    (fun h => (first_point m c ⟨0, h⟩ (Nat.zero_mod _) (by simp)).1)
    (fun n h hl => (middle_point m c ⟨n + 1, h⟩ (by show ¬(n + 1) % 32 = 0; omega) (by show ¬(n + 1) % 32 = 31; omega) (Nat.lt_of_succ_lt h)).1)
    (fun h h' => (last_point m c ⟨31, h⟩ (by simp) (by simp) h').1) last_lt

/-- **After the last point, the second entry** is the sum of the images' smooth L1 losses, weighed. -/
theorem weighed_point (c : Dev nD) :
    outsAt0 m c 31 last_lt (ix1 (1 : Fin 2)) = (∑ s : Fin 32, pointAt m c s.val (lt_of_lt_of_eq s.isLt points.symm)) * ((1280⁻¹ : ℝ) : EReal) :=
  weighed_sum cfg0.N points (fun n h => outsAt0 m c n h (ix1 (1 : Fin 2))) (pointAt m c) _
    (fun h => (first_point m c ⟨0, h⟩ (Nat.zero_mod _) (by simp)).2)
    (fun n h hl => (middle_point m c ⟨n + 1, h⟩ (by show ¬(n + 1) % 32 = 0; omega) (by show ¬(n + 1) % 32 = 31; omega) (Nat.lt_of_succ_lt h)).2)
    (fun h h' => (last_point m c ⟨31, h⟩ (by simp) (by simp) h').2) last_lt

end Cert.KernelIdeal.Hand

end
-- ==== Proof.KernelValue.lean ====
/- The kernel's output array over the kernel's arguments. -/
module

public import proofs.«01_k».proof.Proof.Accumulate

@[expose] public section

set_option maxRecDepth 16384

noncomputable section

open Idealize.ShloMosaic Idealize.ShloMosaic.TcCoe Idealize.SL.Sem

namespace Cert.KernelIdeal.Hand

open Cert.KernelIdeal Cert.KernelIdeal.Gen Cert.DetectionLoss

variable (m : (ℓ : Loc nD τ sig) → Buf (Elt Ideal) ℓ)

/-- Point `t` works on the blocks of image `t`. -/
theorem block_of_point : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![0] := (by decide +kernel : ∀ t : Fin grid0.N, _)

/-- The logits. -/
abbrev logits (c : Dev nD) : FVec Ideal S32x2000x128 .f32 := m ((c : Thread nD τ).loc main_arg0)
/-- The predicted points. -/
abbrev predicted (c : Dev nD) : FVec Ideal S32x2000x2 .f32 := m ((c : Thread nD τ).loc main_arg1)
/-- The labels. -/
abbrev labels (c : Dev nD) : IVec S32x200 32 := m ((c : Thread nD τ).loc main_arg2)
/-- The target points. -/
abbrev wanted (c : Dev nD) : FVec Ideal S32x200x2 .f32 := m ((c : Thread nD τ).loc main_arg3)

/-- The logits' block at point `t`. -/
theorem logits_block (c : Dev nD) (t : Fin cfg0.N) (b : Fin 32) (hb : b.val = t.val) (q : Fin 2000) (k : Fin 128) :
    iblk m c 0 t (ix3 (0 : Fin 1) q k) = logits m c (ix3 b q k) := by
  blk_simp [iblk]
  refine (congrFun (V_main_arg0 m c) _).trans (congrArg (logits m c) ?_)
  funext a
  apply Fin.ext
  match a with
  | ⟨0, _⟩ => blk_simp [block_of_point t]; rw [hb]; rfl
  | ⟨1, _⟩ => blk_simp [block_of_point t]
  | ⟨2, _⟩ => blk_simp [block_of_point t]

/-- The labels' block at point `t`. -/
theorem labels_block (c : Dev nD) (t : Fin cfg0.N) (b : Fin 32) (hb : b.val = t.val) (g : Fin 200) :
    iblk m c 1 t (ix3 (0 : Fin 1) g (0 : Fin 1)) = labels m c (ix2 b g) := by
  blk_simp [iblk]
  entry_read
  have e : ((View.whole main_v0).slice (win0_1.rect t)).emb (ix3 (0 : Fin 1) g (0 : Fin 1)) = ix3 b g (0 : Fin 1) := by
    funext a
    apply Fin.ext
    match a with
    | ⟨0, _⟩ => blk_simp [block_of_point t]; rw [hb]; rfl
    | ⟨1, _⟩ => blk_simp [block_of_point t]
    | ⟨2, _⟩ => blk_simp [block_of_point t]
  rw [e]
  pointwise

/-- The predicted points' block at point `t`: the two coordinates of a point lie side by side. -/
theorem predicted_block (c : Dev nD) (t : Fin cfg0.N) (b : Fin 32) (hb : b.val = t.val) (k : Fin 4000) :
    iblk m c 2 t (ix3 (0 : Fin 1) (0 : Fin 1) k) = predicted m c (ix3 b (⟨k.val / 2, by omega⟩ : Fin 2000) (⟨k.val % 2, by omega⟩ : Fin 2)) := by
  blk_simp [iblk]
  entry_read
  have e : ((View.whole main_v1).slice (win0_2.rect t)).emb (ix3 (0 : Fin 1) (0 : Fin 1) k) = ix3 b (0 : Fin 1) k := by
    funext a
    apply Fin.ext
    match a with
    | ⟨0, _⟩ => blk_simp [block_of_point t]; rw [hb]; rfl
    | ⟨1, _⟩ => blk_simp [block_of_point t]
    | ⟨2, _⟩ => blk_simp [block_of_point t]
  rw [e]
  pointwise

/-- The target points' block at point `t`: the two coordinates of a point lie side by side. -/
theorem wanted_block (c : Dev nD) (t : Fin cfg0.N) (b : Fin 32) (hb : b.val = t.val) (k : Fin 400) :
    iblk m c 3 t (ix3 (0 : Fin 1) (0 : Fin 1) k) = wanted m c (ix3 b (⟨k.val / 2, by omega⟩ : Fin 200) (⟨k.val % 2, by omega⟩ : Fin 2)) := by
  blk_simp [iblk]
  entry_read
  have e : ((View.whole main_v2).slice (win0_3.rect t)).emb (ix3 (0 : Fin 1) (0 : Fin 1) k) = ix3 b (0 : Fin 1) k := by
    funext a
    apply Fin.ext
    match a with
    | ⟨0, _⟩ => blk_simp [block_of_point t]; rw [hb]; rfl
    | ⟨1, _⟩ => blk_simp [block_of_point t]
    | ⟨2, _⟩ => blk_simp [block_of_point t]
  rw [e]
  pointwise

/-- The kernel's final array is what the last point left. -/
theorem final_array (c : Dev nD) : (dats m 0 c).arrAt 4 cfg0.N = outsAt0 m c 31 last_lt := by
  refine (dats m 0 c).arrAt_eq_of_covers 4 _ (by decide +kernel) fun t hf y => ?_
  have ht : t.val % 32 = 31 := (flush0_4 t).mp hf
  blk_simp
  rw [after0_4]
  have hN : t.val < 32 := lt_of_lt_of_eq t.isLt points
  obtain ⟨n, hn⟩ := t
  have h31 : n = 31 := by
    change n % 32 = 31 at ht
    change n < 32 at hN
    omega
  subst h31
  refine congrArg (outsAt0 m c 31 last_lt) ?_
  funext a
  apply Fin.ext
  match a with
  | ⟨0, _⟩ =>
    have h : win0_4.index ⟨31, hn⟩ 0 = 0 := congrFun (block_of_point ⟨31, hn⟩).2.2.2.2 0
    blk_simp
    show _ = win0_4.index ⟨31, hn⟩ 0 * 2 + _
    rw [h, Nat.zero_mul, Nat.zero_add]

/-- **The kernel's first result**: the focal losses of all images, as the kernel sums them, over 3200. -/
theorem kernel_at0 (c : Dev nD) : (dats m 0 c).arrAt 4 cfg0.N (ix1 (0 : Fin 2)) =
    (∑ b : Fin 32, ((∑ q : Fin 2000, ∑ k : Fin 128, negLoss (logits m c (ix3 b q k)))
      + ∑ g : Fin 200, ∑ k : Fin 128, if labels m c (ix2 b g) = BitVec.ofNat 32 k.val
          then posLoss (logits m c (ix3 b (⟨g.val, by omega⟩ : Fin 2000) k)) - negLoss (logits m c (ix3 b (⟨g.val, by omega⟩ : Fin 2000) k)) else 0))
      * ((3200⁻¹ : ℝ) : EReal) := by
  rw [final_array, weighed_focal]
  refine congrArg (· * _) (Finset.sum_congr rfl fun b _ => ?_)
  unfold focalAt blockFocal
  simp only [logits_block m c ⟨b.val, _⟩ b rfl, labels_block m c ⟨b.val, _⟩ b rfl]

/-- **The kernel's second result**: the smooth L1 losses of all images over 1280. -/
theorem kernel_at1 (c : Dev nD) : (dats m 0 c).arrAt 4 cfg0.N (ix1 (1 : Fin 2)) =
    (∑ b : Fin 32, ∑ k : Fin 400, smoothL1
        (predicted m c (ix3 b (⟨k.val / 2, by omega⟩ : Fin 2000) (⟨k.val % 2, by omega⟩ : Fin 2))
          - wanted m c (ix3 b (⟨k.val / 2, by omega⟩ : Fin 200) (⟨k.val % 2, by omega⟩ : Fin 2))))
      * ((1280⁻¹ : ℝ) : EReal) := by
  rw [final_array, weighed_point]
  refine congrArg (· * _) (Finset.sum_congr rfl fun b _ => ?_)
  unfold pointAt blockPoint
  simp only [predicted_block m c ⟨b.val, _⟩ b rfl, wanted_block m c ⟨b.val, _⟩ b rfl]

end Cert.KernelIdeal.Hand

end
-- ==== Proof.RefTables.lean ====
/- The reference's tables read at an index: its pairs of index words, the class table it scatters the labels into, and the
   points it gathers. The 6400 matched boxes are numbered `n`, box `n` being box `n % 200` of image `n / 200`. -/
module

public import proofs.«01_k».proof.Proof.Gen.ReferenceIdeal.Run
public import Idealize.ShloMosaic.Lib.Pointwise
public import Idealize.ShloMosaic.Lib.Routing.OpsSet

@[expose] public section

set_option maxRecDepth 16384

noncomputable section

open Idealize.ShloMosaic Idealize.ShloMosaic.TcCoe Idealize.SL.Sem

namespace Cert.ReferenceIdeal.Hand

open Cert.ReferenceIdeal Cert.ReferenceIdeal.Gen

/-- The image number of each matched box, as the reference's host lines make it. -/
def imageWords : IVec S6400 32 :=
  shapeCast S6400 (broadcastInDim S32x200 ![0] bcast_S32_S32x200_0 (iotaInDim S32 32 0)) shapeCasts_S32x200_S6400

/-- The number of each matched box within its image, as the reference's host lines make it. -/
def boxWords : IVec S6400 32 :=
  shapeCast S6400 (broadcastInDim S32x200 ![0, 1] bcast_S1x200_S32x200_0_1 (shapeCast S1x200 (iotaInDim S200 32 0) shapeCasts_S200_S1x200)) shapeCasts_S32x200_S6400

/-- The 6400 pairs of index words: image and box, each behind the wrap of negative indices. -/
def pairs : IVec S6400x2 32 :=
  concatenate S6400x2 1
    [⟨S6400x1, broadcastInDim S6400x1 ![0] bcast_S6400_S6400x1_0
        (select (cmpi .slt imageWords (broadcastInDim S6400 ![] bcast_S_S6400 (constantI S_ 32 0#32)))
          (addi imageWords (broadcastInDim S6400 ![] bcast_S_S6400 (constantI S_ 32 32#32))) imageWords)⟩,
     ⟨S6400x1, broadcastInDim S6400x1 ![0] bcast_S6400_S6400x1_0
        (select (cmpi .slt boxWords (broadcastInDim S6400 ![] bcast_S_S6400 (constantI S_ 32 0#32)))
          (addi boxWords (broadcastInDim S6400 ![] bcast_S_S6400 (constantI S_ 32 2000#32))) boxWords)⟩]
    concatenates_S6400x1_S6400x1_S6400x2_d1

/-- The class of every query: 128 (no object), the matched ones overwritten by their labels. -/
def classes (L : IVec S32x200 32) : IVec S32x2000 32 :=
  Host.scatter scatter_S32x2000_S6400x2_S6400_n_01_01_1 (fun _ b => b) (broadcastInDim S32x2000 ![] bcast_S_S32x2000 (constantI S_ 32 128#32)) pairs
    (shapeCast S6400 L shapeCasts_S32x200_S6400)

/-- The points of the matched queries. -/
def matchedPoints (P : FVec Ideal S32x2000x2 .f32) : FVec Ideal S6400x2 .f32 :=
  Host.gather gather_S32x2000x2_S6400x2_S6400x2_1_01_n_n_01_1_112 P pairs

/-- The image number of box `n` is `n / 200`. -/
theorem imageWords_at (n : Fin 6400) : imageWords (ix1 n) = BitVec.ofNat 32 (n.val / 200) := by
  pointwise [imageWords]

/-- The number of box `n` within its image is `n % 200`. -/
theorem boxWords_at (n : Fin 6400) : boxWords (ix1 n) = BitVec.ofNat 32 (n.val % 200) := by
  pointwise [boxWords]

/-- A word that is not negative read signed passes the wrap of negative indices unchanged. -/
theorem wrap_small (x a : BitVec 32) (h : x.toNat < 2 ^ 31) : Scalar.select (IntOp.cmpi .slt x 0#32) a x = x :=
  Routing.wrap_of_lt x a h

/-- The first word of pair `n` is its image. -/
theorem pairs_image (n : Fin 6400) : pairs (ix2 n (0 : Fin 2)) = BitVec.ofNat 32 (n.val / 200) := by
  have hn := n.isLt
  pointwise [pairs]
  rw [imageWords_at]
  refine wrap_small _ _ ?_
  rw [BitVec.toNat_ofNat]
  omega

/-- The second word of pair `n` is its box. -/
theorem pairs_box (n : Fin 6400) : pairs (ix2 n (1 : Fin 2)) = BitVec.ofNat 32 (n.val % 200) := by
  have hn := n.isLt
  pointwise [pairs]
  rw [boxWords_at]
  refine wrap_small _ _ ?_
  rw [BitVec.toNat_ofNat]
  omega

/-- The image word read signed. -/
theorem pairs_image_int (n : Fin 6400) : (pairs (ix2 n (0 : Fin 2))).toInt = ((n.val / 200 : ℕ) : ℤ) := by
  have hn := n.isLt
  rw [pairs_image, StableHlo.Predicate.toInt_ofNat_small _ (by omega)]

/-- The box word read signed. -/
theorem pairs_box_int (n : Fin 6400) : (pairs (ix2 n (1 : Fin 2))).toInt = ((n.val % 200 : ℕ) : ℤ) := by
  have hn := n.isLt
  rw [pairs_box, StableHlo.Predicate.toInt_ofNat_small _ (by omega)]

/-! ## Where an update of the scatter lands -/

/-- The dimension numbers of the label scatter. -/
abbrev sd : ScatterDims S32x2000 S6400x2 S6400 := scatter_S32x2000_S6400x2_S6400_n_01_01_1

/-- The image coordinate at which update `n` starts is the first word of its pair. -/
theorem sd_start0 (n : Fin 6400) (I : IVec S6400x2 32) : sd.start (ix1 n) I 0 = (I (ix2 n (0 : Fin 2))).toInt := by
  unfold ScatterDims.start
  rw [dif_pos (by decide)]
  congr 2
  funext a
  match a with
  | ⟨0, _⟩ => rfl
  | ⟨1, _⟩ => rfl

/-- The query coordinate at which update `n` starts is the second word of its pair. -/
theorem sd_start1 (n : Fin 6400) (I : IVec S6400x2 32) : sd.start (ix1 n) I 1 = (I (ix2 n (1 : Fin 2))).toInt := by
  unfold ScatterDims.start
  rw [dif_pos (by decide)]
  congr 2
  funext a
  match a with
  | ⟨0, _⟩ => rfl
  | ⟨1, _⟩ => rfl

/-- An update is one element: it adds nothing to where it starts. -/
theorem sd_window (n : Fin 6400) (a : Fin 2) : sd.window (ix1 n) a = 0 := by
  unfold ScatterDims.window
  rw [dif_neg (by revert a; decide)]

/-- Update `n` of the label scatter lands at query `n % 200` of image `n / 200`. -/
theorem lands (n : Fin 6400) (b : Fin 32) (q : Fin 2000) :
    sd.resultIdx? (ix1 n) pairs = some (ix2 b q) ↔ n.val / 200 = b.val ∧ n.val % 200 = q.val := by
  rw [Routing.resultIdx?_eq_some]
  constructor
  · intro h
    have h0 := h 0
    have h1 := h 1
    rw [sd_start0, sd_window, pairs_image_int] at h0
    rw [sd_start1, sd_window, pairs_box_int] at h1
    change ((n.val / 200 : ℕ) : ℤ) + ((0 : ℕ) : ℤ) = ((b.val : ℕ) : ℤ) at h0
    change ((n.val % 200 : ℕ) : ℤ) + ((0 : ℕ) : ℤ) = ((q.val : ℕ) : ℤ) at h1
    omega
  · rintro ⟨h0, h1⟩ a
    match a with
    | ⟨0, _⟩ =>
      refine (congrArg₂ (fun (x : ℤ) (y : ℕ) => x + (y : ℤ)) ((sd_start0 n pairs).trans (pairs_image_int n)) (sd_window n 0)).trans ?_
      change ((n.val / 200 : ℕ) : ℤ) + ((0 : ℕ) : ℤ) = ((b.val : ℕ) : ℤ)
      omega
    | ⟨1, _⟩ =>
      refine (congrArg₂ (fun (x : ℤ) (y : ℕ) => x + (y : ℤ)) ((sd_start1 n pairs).trans (pairs_box_int n)) (sd_window n 1)).trans ?_
      change ((n.val % 200 : ℕ) : ℤ) + ((0 : ℕ) : ℤ) = ((q.val : ℕ) : ℤ)
      omega

/-- **The class table at a matched query** `g` of image `b` is the label of box `g` there. -/
theorem classes_matched (L : IVec S32x200 32) (b : Fin 32) (g : Fin 200) :
    classes L (ix2 b (⟨g.val, by omega⟩ : Fin 2000)) = L (ix2 b g) := by
  have hb := b.isLt
  have hg := g.isLt
  have hn : b.val * 200 + g.val < 6400 := by omega
  refine Routing.scatter_set_hit sd _ pairs _ _ _ (fun k hk => ?_) (ix1 (⟨b.val * 200 + g.val, hn⟩ : Fin 6400)) ((lands _ _ _).2 ⟨?_, ?_⟩)
  · idx_vars k
    have h := (lands k0 b _).1 hk
    pointwise
    congr 1
    have h1 := h.1
    have h2 := h.2
    dsimp only at h2
    refine (ix2_inj ..).2 ⟨Fin.ext h1, Fin.ext h2⟩
  · show (b.val * 200 + g.val) / 200 = b.val
    omega
  · show (b.val * 200 + g.val) % 200 = g.val
    omega

/-- **The class table at an unmatched query** (200 or later) is 128. -/
theorem classes_unmatched (L : IVec S32x200 32) (b : Fin 32) (q : Fin 2000) (hq : 200 ≤ q.val) : classes L (ix2 b q) = 128#32 := by
  refine (Routing.scatter_set_miss sd _ pairs _ _ fun k hk => ?_).trans ?_
  · idx_vars k
    have h := ((lands k0 b q).1 hk).2
    omega
  · pointwise

/-! ## The gathered points -/

/-- The dimension numbers of the gather of points. -/
abbrev gd : GatherDims S32x2000x2 S6400x2 S6400x2 := gather_S32x2000x2_S6400x2_S6400x2_1_01_n_n_01_1_112

/-- The image coordinate of the slice that box `n` reads is the first word of its pair, clamped to the images there are. -/
theorem gd_start0 (n : Fin 6400) (j : Fin 2) (I : IVec S6400x2 32) :
    gd.start (ix2 n j) I 0 = min (I (ix2 n (0 : Fin 2))).toInt.toNat 31 := by
  unfold GatherDims.start
  rw [dif_pos (by decide)]
  have e : gd.siIdx (ix2 n j) ⟨gd.startIndexMap.idxOf 0, by decide⟩ = ix2 n (0 : Fin 2) := by
    funext a
    match a with
    | ⟨0, _⟩ => rfl
    | ⟨1, _⟩ => rfl
  rw [e]
  rfl

/-- The query coordinate of the slice that box `n` reads is the second word of its pair, clamped to the queries there are. -/
theorem gd_start1 (n : Fin 6400) (j : Fin 2) (I : IVec S6400x2 32) :
    gd.start (ix2 n j) I 1 = min (I (ix2 n (1 : Fin 2))).toInt.toNat 1999 := by
  unfold GatherDims.start
  rw [dif_pos (by decide)]
  have e : gd.siIdx (ix2 n j) ⟨gd.startIndexMap.idxOf 1, by decide⟩ = ix2 n (1 : Fin 2) := by
    funext a
    match a with
    | ⟨0, _⟩ => rfl
    | ⟨1, _⟩ => rfl
  rw [e]
  rfl

/-- The slice starts at the first of the two coordinates of a point. -/
theorem gd_start2 (n : Fin 6400) (j : Fin 2) (I : IVec S6400x2 32) : gd.start (ix2 n j) I 2 = 0 := by
  unfold GatherDims.start
  rw [dif_neg (by decide)]

/-- The gather has no batching coordinate. -/
theorem gd_batch (k : S6400x2.Idx) (a : Fin 3) : gd.batchCoord k a = 0 :=
  gd.batchCoord_eq_zero k a (by revert a; decide)

/-- Within its slice a result element has no offset along the image and the query. -/
theorem gd_off01 (k : S6400x2.Idx) : gd.offCoord k 0 = 0 ∧ gd.offCoord k 1 = 0 :=
  ⟨gd.offCoord_eq_zero k 0 (by decide), gd.offCoord_eq_zero k 1 (by decide)⟩

/-- Within its slice a result element's offset along the coordinates of a point is its own second index. -/
theorem gd_off2 (n : Fin 6400) (j : Fin 2) : gd.offCoord (ix2 n j) 2 = j.val := by
  unfold GatherDims.offCoord
  rw [dif_pos (by decide)]
  rfl

/-- **The gathered point of box `n`** is the point of query `n % 200` of image `n / 200`. -/
theorem matchedPoints_at (P : FVec Ideal S32x2000x2 .f32) (n : Fin 6400) (j : Fin 2) :
    matchedPoints P (ix2 n j) = P (ix3 (⟨n.val / 200, by omega⟩ : Fin 32) (⟨n.val % 200, by omega⟩ : Fin 2000) j) := by
  have hn := n.isLt
  unfold matchedPoints Host.gather
  congr 1
  funext a
  apply Fin.ext
  match a with
  | ⟨0, _⟩ =>
    show gd.start (ix2 n j) pairs 0 + gd.batchCoord (ix2 n j) 0 + gd.offCoord (ix2 n j) 0 = n.val / 200
    rw [gd_start0, gd_batch, (gd_off01 _).1, pairs_image_int]
    omega
  | ⟨1, _⟩ =>
    show gd.start (ix2 n j) pairs 1 + gd.batchCoord (ix2 n j) 1 + gd.offCoord (ix2 n j) 1 = n.val % 200
    rw [gd_start1, gd_batch, (gd_off01 _).2, pairs_box_int]
    omega
  | ⟨2, _⟩ =>
    show gd.start (ix2 n j) pairs 2 + gd.batchCoord (ix2 n j) 2 + gd.offCoord (ix2 n j) 2 = j.val
    rw [gd_start2, gd_batch, gd_off2]
    omega

end Cert.ReferenceIdeal.Hand

end
-- ==== Proof.RefValue.lean ====
/- What the reference computes, on the extended reals: its two results as sums over the arguments. -/
module

public import proofs.«01_k».proof.Proof.RefTables
public import proofs.«01_k».proof.Proof.Focal

@[expose] public section

set_option maxRecDepth 16384

noncomputable section

open Idealize.ShloMosaic Idealize.ShloMosaic.TcCoe Idealize.SL.Sem

namespace Cert.ReferenceIdeal.Hand

open Cert.ReferenceIdeal Cert.ReferenceIdeal.Gen Cert.DetectionLoss

/-- The one-hot targets: the one-hot table of the classes over 129 columns, the last column cut off. -/
def targets (L : IVec S32x200 32) : FVec Ideal S32x2000x128 .f32 :=
  extractStridedSlice S32x2000x128 ![0, 0, 0]
    (uitofp .f32 (cmpi .eq
      (broadcastInDim S32x2000x129 ![0, 1, 2] bcast_S32x2000x1_S32x2000x129_0_1_2 (broadcastInDim S32x2000x1 ![0, 1] bcast_S32x2000_S32x2000x1_0_1 (classes L)))
      (broadcastInDim S32x2000x129 ![0, 1, 2] bcast_S1x1x129_S32x2000x129_0_1_2 (iotaInDim S1x1x129 32 2))))
    slices_S32x2000x129_S32x2000x128_0_0_0

/-- One spread over the table of logits. -/
def ones : FVec Ideal S32x2000x128 .f32 := broadcastInDim S32x2000x128 ![] bcast_S_S32x2000x128 (constant S_ .f32 0x3F800000#32)

/-- The sigmoids of the logits. -/
def probs (X : FVec Ideal S32x2000x128 .f32) : FVec Ideal S32x2000x128 .f32 := Host.divf ones (addf ones (Host.exp (Host.negf X)))

/-- The focal loss of every logit `X` with target `T`. -/
def focalTable (X T : FVec Ideal S32x2000x128 .f32) : FVec Ideal S32x2000x128 .f32 :=
  mulf
    (addf (mulf (broadcastInDim S32x2000x128 ![] bcast_S_S32x2000x128 (constant S_ .f32 0x3E800000#32)) T)
      (mulf (broadcastInDim S32x2000x128 ![] bcast_S_S32x2000x128 (constant S_ .f32 0x3F400000#32)) (subf ones T)))
    (mulf
      (addf (subf (maximumf X (broadcastInDim S32x2000x128 ![] bcast_S_S32x2000x128 (constant S_ .f32 0x00000000#32))) (mulf X T))
        (Host.log1p (Host.exp (Host.negf (Host.absf X)))))
      (Host.powf (subf ones (addf (mulf (probs X) T) (mulf (subf ones (probs X)) (subf ones T))))
        (broadcastInDim S32x2000x128 ![] bcast_S_S32x2000x128 (constant S_ .f32 0x40000000#32))))

/-- The coordinate differences of the matched points and the target points `Q`. -/
def differences (P : FVec Ideal S32x2000x2 .f32) (Q : FVec Ideal S32x200x2 .f32) : FVec Ideal S6400x2 .f32 :=
  subf (matchedPoints P) (shapeCast S6400x2 Q shapeCasts_S32x200x2_S6400x2)

/-- The smooth L1 loss of every difference. -/
def smoothTable (D : FVec Ideal S6400x2 .f32) : FVec Ideal S6400x2 .f32 :=
  select (cmpf .olt (Host.absf D) (broadcastInDim S6400x2 ![] bcast_S_S6400x2 (constant S_ .f32 0x3F800000#32)))
    (mulf (mulf (broadcastInDim S6400x2 ![] bcast_S_S6400x2 (constant S_ .f32 0x3F000000#32)) D) D)
    (subf (Host.absf D) (broadcastInDim S6400x2 ![] bcast_S_S6400x2 (constant S_ .f32 0x3F000000#32)))

/-- The reference's result: the two weighted means. -/
def losses (X : FVec Ideal S32x2000x128 .f32) (P : FVec Ideal S32x2000x2 .f32) (L : IVec S32x200 32) (Q : FVec Ideal S32x200x2 .f32) : FVec Ideal S2 .f32 :=
  concatenate S2 0
    [⟨S1, broadcastInDim S1 ![] bcast_S_S1 (mulf
        (Host.divf (Host.reduceAdd (focalTable X (targets L)) (constant S_ .f32 0x00000000#32) reducesTo_S32x2000x128_S_d0_1_2 h_S_)
          (maximumf (constant S_ .f32 0x45C80000#32) (constant S_ .f32 0x3F800000#32)))
        (constant S_ .f32 0x40000000#32))⟩,
     ⟨S1, broadcastInDim S1 ![] bcast_S_S1 (mulf
        (Host.divf (Host.reduceAdd (smoothTable (differences P Q)) (constant S_ .f32 0x00000000#32) reducesTo_S6400x2_S_d0_1 h_S_)
          (maximumf (constant S_ .f32 0x45C80000#32) (constant S_ .f32 0x3F800000#32)))
        (constant S_ .f32 0x40A00000#32))⟩]
    concatenates_S1_S1_S2_d0

/-- The array at which the reference's run ends is `losses` of its arguments. -/
theorem result_eq (m : (ℓ : Loc nD τ sig) → Buf (Elt Ideal) ℓ) (c : Dev nD) :
    Cert.ReferenceIdeal.Value.res_main_v94 m c
      = losses (m ((c.tc : Thread nD τ).loc main_arg0)) (m ((c.tc : Thread nD τ).loc main_arg1)) (m ((c.tc : Thread nD τ).loc main_arg2)) (m ((c.tc : Thread nD τ).loc main_arg3)) := rfl

/-- An equality of two words, read as a number: 1 if it holds, else 0. -/
theorem indicator (a b : BitVec 32) : (FloatOps.uitofp (F := Ideal) FTy.f32 (IntOp.cmpi .eq a b) : EReal) = if a = b then 1 else 0 := by
  by_cases h : a = b
  · subst h
    rw [if_pos rfl]
    have e : IntOp.cmpi .eq a a = 1#1 := by simp [IntOp.cmpi]
    rw [e]
    show (((1#1 : BitVec 1).toNat : ℝ) : EReal) = 1
    norm_num
  · rw [if_neg h]
    have e : IntOp.cmpi .eq a b = 0#1 := by
      rw [IntOp.cmpi, beq_eq_false_iff_ne.mpr h]
      rfl
    rw [e]
    show (((0#1 : BitVec 1).toNat : ℝ) : EReal) = 0
    norm_num

/-- The larger of 6400 and one, the divisor of both means, is 6400. -/
theorem divisor : max (Ideal.ofBits .f32 0x45C80000#32) (1 : EReal) = ((6400 : ℝ) : EReal) := by
  rw [pattern_boxes, ← EReal.coe_one]
  exact max_eq_left (EReal.coe_le_coe_iff.mpr (by norm_num))

/-- The target of a matched query at class `k` is 1 where `k` is the label, else 0. -/
theorem targets_matched (L : IVec S32x200 32) (b : Fin 32) (g : Fin 200) (k : Fin 128) :
    targets L (ix3 b (⟨g.val, by omega⟩ : Fin 2000) k) = if L (ix2 b g) = BitVec.ofNat 32 k.val then 1 else 0 := by
  pointwise [targets]
  rw [classes_matched, indicator]

/-- The target of an unmatched query is 0 at every class. -/
theorem targets_unmatched (L : IVec S32x200 32) (b : Fin 32) (q : Fin 2000) (hq : 200 ≤ q.val) (k : Fin 128) : targets L (ix3 b q k) = 0 := by
  pointwise [targets]
  rw [classes_unmatched L b q hq, indicator, if_neg]
  intro e
  have h := congrArg BitVec.toNat e
  rw [BitVec.toNat_ofNat, BitVec.toNat_ofNat] at h
  omega

/-- The table of focal losses, entry by entry. -/
theorem focalTable_at (X T : FVec Ideal S32x2000x128 .f32) (b : Fin 32) (q : Fin 2000) (k : Fin 128) :
    focalTable X T (ix3 b q k) = refLoss (X (ix3 b q k)) (T (ix3 b q k)) := by
  pointwise [focalTable, ones, probs, refLoss, sigmoid, Ideal.absf_def, Ideal.negf_def]

/-- The table of smooth L1 losses, entry by entry. -/
theorem smoothTable_at (P : FVec Ideal S32x2000x2 .f32) (Q : FVec Ideal S32x200x2 .f32) (n : Fin 6400) (j : Fin 2) :
    smoothTable (differences P Q) (ix2 n j) = smoothL1
      (P (ix3 (⟨n.val / 200, by omega⟩ : Fin 32) (⟨n.val % 200, by omega⟩ : Fin 2000) j) - Q (ix3 (⟨n.val / 200, by omega⟩ : Fin 32) (⟨n.val % 200, by omega⟩ : Fin 200) j)) := by
  pointwise [smoothTable, differences, smoothL1, Ideal.absf_def]
  rw [matchedPoints_at]

/-- **The reference's first result**: the sum of the focal losses over 3200. -/
theorem losses_at0 (X : FVec Ideal S32x2000x128 .f32) (P : FVec Ideal S32x2000x2 .f32) (L : IVec S32x200 32) (Q : FVec Ideal S32x200x2 .f32) :
    losses X P L Q (ix1 (0 : Fin 2)) = (∑ b : Fin 32, ∑ q : Fin 2000, ∑ k : Fin 128, refLoss (X (ix3 b q k)) (targets L (ix3 b q k))) * ((3200⁻¹ : ℝ) : EReal) := by
  pointwise [losses]
  rw [divisor, Ideal.div_coe (by norm_num), pattern_two, mul_assoc, ← EReal.coe_mul]
  congr 1
  · exact Finset.sum_congr rfl fun b _ => Finset.sum_congr rfl fun q _ => Finset.sum_congr rfl fun k _ => focalTable_at _ _ _ _ _
  · norm_num

/-- **The reference's second result**: the sum of the smooth L1 losses over 1280. -/
theorem losses_at1 (X : FVec Ideal S32x2000x128 .f32) (P : FVec Ideal S32x2000x2 .f32) (L : IVec S32x200 32) (Q : FVec Ideal S32x200x2 .f32) :
    losses X P L Q (ix1 (1 : Fin 2)) = (∑ n : Fin 6400, ∑ j : Fin 2, smoothL1
      (P (ix3 (⟨n.val / 200, by omega⟩ : Fin 32) (⟨n.val % 200, by omega⟩ : Fin 2000) j) - Q (ix3 (⟨n.val / 200, by omega⟩ : Fin 32) (⟨n.val % 200, by omega⟩ : Fin 200) j)))
       * ((1280⁻¹ : ℝ) : EReal) := by
  pointwise [losses]
  rw [divisor, Ideal.div_coe (by norm_num), pattern_five, mul_assoc, ← EReal.coe_mul]
  congr 1
  · exact Finset.sum_congr rfl fun n _ => Finset.sum_congr rfl fun j _ => smoothTable_at _ _ _ _
  · norm_num

end Cert.ReferenceIdeal.Hand

end
-- ==== Proof.PreRead.lean ====
/- What the precondition says: no logit of a matched query at its label is `+∞`. -/
module

public import proofs.«01_k».proof.Proof.Gen.Pre_matched_below_inf
public import proofs.«01_k».proof.Proof.Block

@[expose] public section

set_option maxRecDepth 16384

noncomputable section

open Idealize.ShloMosaic Idealize.ShloMosaic.TcCoe Idealize.SL.Sem

namespace Cert.Pre_matched_below_inf.Hand

open Cert.Pre_matched_below_inf Cert.Pre_matched_below_inf.Gen Cert.DetectionLoss

/-- A conjunction of finitely many bits that is 1 has only ones. -/
theorem all_of_conjunction {ι : Type} [DecidableEq ι] (p : ι → BitVec 1) (s : Finset ι) (z : BitVec 1) :
    s.fold IntOp.andi z p = 1#1 → ∀ i ∈ s, p i = 1#1 := by
  refine s.induction_on (fun _ i hi => absurd hi (Finset.notMem_empty i)) fun a s ha ih h => ?_
  rw [Finset.fold_insert ha] at h
  have both : p a = 1#1 ∧ s.fold IntOp.andi z p = 1#1 := by
    generalize s.fold IntOp.andi z p = u at h
    generalize p a = v at h
    revert u v
    decide
  intro i hi
  obtain rfl | hi := Finset.mem_insert.mp hi
  · exact both.1
  · exact ih both.2 i hi

/-- The checked comparisons: the logit where the class is the label, and zero elsewhere, against `+∞`. -/
def checks (X : FVec Ideal S32x2000x128 .f32) (L : IVec S32x200 32) : IVec S32x200x128 1 :=
  cmpf .olt
    (fn_where (F := Ideal)
      (cmpi .eq (broadcastInDim S32x200x128 ![0, 1, 2] bcast_S32x200x1_S32x200x128_0_1_2 (broadcastInDim S32x200x1 ![0, 1] bcast_S32x200_S32x200x1_0_1 L))
        (iotaInDim S32x200x128 32 2))
      (extractStridedSlice S32x200x128 ![0, 0, 0] X slices_S32x2000x128_S32x200x128_0_0_0)
      (constant S_ .f32 0x00000000#32))
    (broadcastInDim S32x200x128 ![] bcast_S_S32x200x128 (constant S_ .f32 0x7F800000#32))

/-- One check, where the class is the label. -/
theorem check_at (X : FVec Ideal S32x2000x128 .f32) (L : IVec S32x200 32) (b : Fin 32) (g : Fin 200) (k : Fin 128) (h : L (ix2 b g) = BitVec.ofNat 32 k.val)
    (hc : checks X L (ix3 b g k) = 1#1) : X (ix3 b (⟨g.val, by omega⟩ : Fin 2000) k) < ⊤ := by
  have e : checks X L (ix3 b g k) = BitVec.ofBool (decide (X (ix3 b (⟨g.val, by omega⟩ : Fin 2000) k) < ⊤)) := by
    pointwise [checks, fn_where]
    simp only [Cert.KernelIdeal.Hand.choose_eq, if_pos h, pattern_inf]
  by_contra hn
  rw [e, decide_eq_false hn] at hc
  exact absurd hc (by decide)

/-- **The precondition**, read: a logit of a matched query at its label is not `+∞`. -/
theorem below (X : FVec Ideal S32x2000x128 .f32) (P : FVec Ideal S32x2000x2 .f32) (L : IVec S32x200 32) (Q : FVec Ideal S32x200x2 .f32)
    (hpre : Cert.Pre_matched_below_inf.fn (F := Ideal) X P L Q = fun _ => 1#1) (b : Fin 32) (g : Fin 200) (k : Fin 128)
    (h : L (ix2 b g) = BitVec.ofNat 32 k.val) : X (ix3 b (⟨g.val, by omega⟩ : Fin 2000) k) < ⊤ := by
  have e : Host.reduce IntOp.andi (checks X L) (constantI S_ 1 1#1) reducesTo_S32x200x128_S_d0_1_2 h_S_ ix0 = 1#1 := congrFun hpre ix0
  rw [Host.reduce_eq_fold] at e
  exact check_at X L b g k h (all_of_conjunction _ _ _ e _ (Finset.mem_filter.mpr ⟨Finset.mem_univ _, Subsingleton.elim _ _⟩))

end Cert.Pre_matched_below_inf.Hand

end
-- ==== Proof.Equation.lean ====
/- The equation: the kernel's sums are the reference's. -/
module

public import proofs.«01_k».proof.Proof.Focal

@[expose] public section

noncomputable section

open Idealize.ShloMosaic

namespace Cert.DetectionLoss

/-- A sum over the 2000 queries is the sum over the 200 matched ones and the sum over the 1800 unmatched ones. -/
theorem split_queries (f : Fin 2000 → EReal) :
    ∑ q : Fin 2000, f q = (∑ g : Fin 200, f (⟨g.val, by omega⟩ : Fin 2000)) + ∑ r : Fin 1800, f (⟨200 + r.val, by omega⟩ : Fin 2000) :=
  Fin.sum_univ_add (a := 200) (b := 1800) f

/-- **The focal losses of one image.** The kernel sums every logit `x` as unmatched and then adds the correction at the labelled class of every
box; the reference sums the loss of every logit with its target `t`. They agree when no logit at a labelled class is `+∞`. -/
theorem focal_image (x : Fin 2000 → Fin 128 → EReal) (hit : Fin 200 → Fin 128 → Prop) [∀ g k, Decidable (hit g k)] (t : Fin 2000 → Fin 128 → EReal)
    (matched : ∀ (g : Fin 200) (k : Fin 128), t (⟨g.val, by omega⟩ : Fin 2000) k = if hit g k then 1 else 0)
    (unmatched : ∀ (q : Fin 2000), 200 ≤ q.val → ∀ k : Fin 128, t q k = 0)
    (finite : ∀ (g : Fin 200) (k : Fin 128), hit g k → x (⟨g.val, by omega⟩ : Fin 2000) k < ⊤) :
    ((∑ q : Fin 2000, ∑ k : Fin 128, negLoss (x q k))
      + ∑ g : Fin 200, ∑ k : Fin 128, if hit g k
          then posLoss (x (⟨g.val, by omega⟩ : Fin 2000) k) - negLoss (x (⟨g.val, by omega⟩ : Fin 2000) k) else 0)
      = ∑ q : Fin 2000, ∑ k : Fin 128, refLoss (x q k) (t q k) := by
  rw [split_queries fun q => ∑ k : Fin 128, negLoss (x q k), split_queries fun q => ∑ k : Fin 128, refLoss (x q k) (t q k), add_right_comm,
    ← Finset.sum_add_distrib]
  congr 1
  · refine Finset.sum_congr rfl fun g _ => ?_
    rw [← Finset.sum_add_distrib]
    refine Finset.sum_congr rfl fun k _ => ?_
    rw [matched]
    by_cases h : hit g k
    · rw [if_pos h, if_pos h]
      exact focal_matched _ (finite g k h)
    · rw [if_neg h, if_neg h, add_zero]
      exact focal_unmatched _
  · refine Finset.sum_congr rfl fun r _ => Finset.sum_congr rfl fun k _ => ?_
    rw [unmatched _ (Nat.le_add_right 200 r.val)]
    exact focal_unmatched _

/-- **The smooth L1 losses.** The kernel sums image by image the 400 coordinates of an image; the reference sums box by box, over all images' boxes,
the two coordinates of a box. -/
theorem point_sums (f : Fin 32 → Fin 200 → Fin 2 → EReal) :
    (∑ b : Fin 32, ∑ k : Fin 400, f b (⟨k.val / 2, by omega⟩ : Fin 200) (⟨k.val % 2, by omega⟩ : Fin 2))
      = ∑ n : Fin 6400, ∑ j : Fin 2, f (⟨n.val / 200, by omega⟩ : Fin 32) (⟨n.val % 200, by omega⟩ : Fin 200) j := by
  have boxes : (∑ n : Fin 6400, ∑ j : Fin 2, f (⟨n.val / 200, by omega⟩ : Fin 32) (⟨n.val % 200, by omega⟩ : Fin 200) j)
      = ∑ b : Fin 32, ∑ g : Fin 200, ∑ j : Fin 2, f b g j := by
    rw [← Fintype.sum_prod_type' (f := fun (b : Fin 32) (g : Fin 200) => ∑ j : Fin 2, f b g j)]
    exact Fintype.sum_equiv (finProdFinEquiv (m := 32) (n := 200)).symm _ _ fun n => rfl
  rw [boxes]
  refine Finset.sum_congr rfl fun b _ => ?_
  rw [← Fintype.sum_prod_type' (f := fun (g : Fin 200) (j : Fin 2) => f b g j)]
  exact Fintype.sum_equiv (finProdFinEquiv (m := 200) (n := 2)).symm _ _ fun k => rfl

end Cert.DetectionLoss

end
-- ==== Proof.lean ====
/- The proof of the claim: the kernel and the reference run and leave their arguments as they were, the two named constants are
   the ones stated, and the kernel's result is the reference's on the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_matched_below_inf
public import proofs.«01_k».proof.Proof.KernelValue
public import proofs.«01_k».proof.Proof.RefValue
public import proofs.«01_k».proof.Proof.PreRead
public import proofs.«01_k».proof.Proof.Equation
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem Cert.DetectionLoss

/-- The reference runs, leaves its arguments as they were and every semaphore at zero. -/
theorem reference_frame : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The two constants the kernel multiplies by are the named ones. -/
theorem preserves : Cert.preserves_Kernel_KernelIdeal :=
  ⟨IdealRules.named_const.statement Cert.KernelIdeal.κ "w_ce" .f32 0x39A3D70A#32 ((3200⁻¹ : ℝ) : EReal) rfl,
    IdealRules.named_const.statement Cert.KernelIdeal.κ "w_point" .f32 0x3A4CCCCD#32 ((1280⁻¹ : ℝ) : EReal) rfl⟩

/-- Under the precondition the reference's result array at the kernel's arguments is the kernel's. -/
theorem results_agree (m : (ℓ : Loc Cert.KernelIdeal.nD Cert.KernelIdeal.τ Cert.KernelIdeal.sig) → Buf (Elt Ideal) ℓ)
    (hpre : Cert.Pre_KernelIdeal_matched_below_inf m) (c : Dev Cert.KernelIdeal.nD) :
    Cert.ReferenceIdeal.Hand.losses (Cert.KernelIdeal.Hand.logits m c) (Cert.KernelIdeal.Hand.predicted m c) (Cert.KernelIdeal.Hand.labels m c)
      (Cert.KernelIdeal.Hand.wanted m c) = (Cert.KernelIdeal.Gen.dats m 0 c).arrAt 4 Cert.KernelIdeal.cfg0.N := by
  funext i
  obtain ⟨j, rfl⟩ : ∃ j : Fin 2, i = ix1 j := ⟨i 0, by funext a; match a with | ⟨0, _⟩ => rfl⟩
  match j with
  | ⟨0, _⟩ =>
    refine (Cert.ReferenceIdeal.Hand.losses_at0 _ _ _ _).trans (Eq.trans ?_ (Cert.KernelIdeal.Hand.kernel_at0 m c).symm)
    refine congrArg (· * _) (Finset.sum_congr rfl fun b _ => ?_)
    exact (focal_image (fun q k => Cert.KernelIdeal.Hand.logits m c (ix3 b q k)) (fun g k => Cert.KernelIdeal.Hand.labels m c (ix2 b g) = BitVec.ofNat 32 k.val)
      (fun q k => Cert.ReferenceIdeal.Hand.targets (Cert.KernelIdeal.Hand.labels m c) (ix3 b q k))
      (fun g k => Cert.ReferenceIdeal.Hand.targets_matched _ b g k) (fun q hq k => Cert.ReferenceIdeal.Hand.targets_unmatched _ b q hq k)
      (fun g k h => Cert.Pre_matched_below_inf.Hand.below _ _ _ _ (hpre c) b g k h)).symm
  | ⟨1, _⟩ =>
    refine (Cert.ReferenceIdeal.Hand.losses_at1 _ _ _ _).trans (Eq.trans ?_ (Cert.KernelIdeal.Hand.kernel_at1 m c).symm)
    refine congrArg (· * _) ?_
    exact (point_sums fun b g j => smoothL1 (Cert.KernelIdeal.Hand.predicted m c (ix3 b (⟨g.val, by omega⟩ : Fin 2000) j)
      - Cert.KernelIdeal.Hand.wanted m c (ix3 b g j))).symm

/-- The kernel and the reference end with equal results. -/
theorem algebraic : Cert.algebraic_KernelIdeal_ReferenceIdeal_pre_matched_below_inf := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩) (Cert.ReferenceIdeal.Value.run (F := Ideal) m' ρ')
  obtain ⟨h0, h1, h2, h3⟩ := hagree c
  refine Eq.trans ?_ (results_agree m hpre c)
  refine (Cert.ReferenceIdeal.Hand.result_eq m' c).trans ?_
  rw [h0, h1, h2, h3]

/-- **The claim.** -/
theorem claim : Cert.Claim :=
  ⟨Cert.Kernel.Gen.facts, Cert.KernelIdeal.Gen.facts, Cert.ReferenceIdeal.Gen.facts, Cert.Pre_matched_below_inf.Gen.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, preserves, algebraic⟩

end Cert.Proof

end
